-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_indices)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_indices_3)) (v4 : (c : Dev Cert.KernelIdeal.nD) → Buf (Elt Ideal) ((c.tc : Thread Cert.KernelIdeal.nD Cert.KernelIdeal.τ).loc Cert.KernelIdeal.main_v43)) (v5 : (c : Dev Cert.KernelIdeal.nD) → Buf (Elt Ideal) ((c.tc : Thread Cert.KernelIdeal.nD Cert.KernelIdeal.τ).loc Cert.KernelIdeal.main_indices_8)) (v6 : (c : Dev Cert.KernelIdeal.nD) → Buf (Elt Ideal) ((c.tc : Thread Cert.KernelIdeal.nD Cert.KernelIdeal.τ).loc Cert.KernelIdeal.main_v56)) (v7 : (c : Dev Cert.KernelIdeal.nD) → Buf (Elt Ideal) ((c.tc : Thread Cert.KernelIdeal.nD Cert.KernelIdeal.τ).loc Cert.KernelIdeal.main_indices_13)) (v8 : (c : Dev Cert.KernelIdeal.nD) → Buf (Elt Ideal) ((c.tc : Thread Cert.KernelIdeal.nD Cert.KernelIdeal.τ).loc Cert.KernelIdeal.main_v69)) (v9 : (c : Dev Cert.KernelIdeal.nD) → Buf (Elt Ideal) ((c.tc : Thread Cert.KernelIdeal.nD Cert.KernelIdeal.τ).loc Cert.KernelIdeal.main_indices_18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_indices_3) = v3 c
          ∧ r.2.mem ((c.tc : Thread Cert.KernelIdeal.nD Cert.KernelIdeal.τ).loc Cert.KernelIdeal.main_v43) = v4 c
          ∧ r.2.mem ((c.tc : Thread Cert.KernelIdeal.nD Cert.KernelIdeal.τ).loc Cert.KernelIdeal.main_indices_8) = v5 c
          ∧ r.2.mem ((c.tc : Thread Cert.KernelIdeal.nD Cert.KernelIdeal.τ).loc Cert.KernelIdeal.main_v56) = v6 c
          ∧ r.2.mem ((c.tc : Thread Cert.KernelIdeal.nD Cert.KernelIdeal.τ).loc Cert.KernelIdeal.main_indices_13) = v7 c
          ∧ r.2.mem ((c.tc : Thread Cert.KernelIdeal.nD Cert.KernelIdeal.τ).loc Cert.KernelIdeal.main_v69) = v8 c
          ∧ r.2.mem ((c.tc : Thread Cert.KernelIdeal.nD Cert.KernelIdeal.τ).loc Cert.KernelIdeal.main_indices_18) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_indices_5) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_indices_11) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_indices_17) = v7 c
          ∧ r.2.mem ((c.tc : Thread Cert.ReferenceIdeal.nD Cert.ReferenceIdeal.τ).loc Cert.ReferenceIdeal.main_v87) = v8 c
          ∧ r.2.mem ((c.tc : Thread Cert.ReferenceIdeal.nD Cert.ReferenceIdeal.τ).loc Cert.ReferenceIdeal.main_indices_23) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x64 : Shape := ⟨2, ![1024, 64]⟩
abbrev S64 : Shape := ⟨1, ![64]⟩
abbrev S10240x64 : Shape := ⟨2, ![10240, 64]⟩
abbrev S2048x64 : Shape := ⟨2, ![2048, 64]⟩
abbrev S8192x1024 : Shape := ⟨2, ![8192, 1024]⟩
abbrev S6144x64 : Shape := ⟨2, ![6144, 64]⟩
abbrev S8192x64 : Shape := ⟨2, ![8192, 64]⟩
abbrev S1x64 : Shape := ⟨2, ![1, 64]⟩
abbrev S8192x8192 : Shape := ⟨2, ![8192, 8192]⟩
abbrev S256x1024 : Shape := ⟨2, ![256, 1024]⟩
abbrev S256x8192 : Shape := ⟨2, ![256, 8192]⟩
abbrev S256x64 : Shape := ⟨2, ![256, 64]⟩
abbrev S8192 : Shape := ⟨1, ![8192]⟩
abbrev S8192x1 : Shape := ⟨2, ![8192, 1]⟩
abbrev S64x8192 : Shape := ⟨2, ![64, 8192]⟩
abbrev S8192x2048 : Shape := ⟨2, ![8192, 2048]⟩
abbrev S4x2048x2048 : Shape := ⟨3, ![4, 2048, 2048]⟩
abbrev S4x2048x64 : Shape := ⟨3, ![4, 2048, 64]⟩
abbrev S_ : Shape := ⟨0, ![]⟩
abbrev S4x2048 : Shape := ⟨2, ![4, 2048]⟩
abbrev S4x2048x1 : Shape := ⟨3, ![4, 2048, 1]⟩
abbrev S4x2048x32 : Shape := ⟨3, ![4, 2048, 32]⟩

abbrev nBuf : Space → Nat
  | .hbm => 100
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S10240x64, .f32⟩
  | .hbm, ⟨4, _⟩ => ⟨S2048x64, .f32⟩
  | .hbm, ⟨5, _⟩ => ⟨S8192x1024, .f32⟩
  | .hbm, ⟨6, _⟩ => ⟨S6144x64, .f32⟩
  | .hbm, ⟨7, _⟩ => ⟨S8192x64, .f32⟩
  | .hbm, ⟨8, _⟩ => ⟨S1x64, .f32⟩
  | .hbm, ⟨9, _⟩ => ⟨S8192x8192, .f32⟩
  | .hbm, ⟨10, _⟩ => ⟨S8192x2048, .f32⟩
  | .hbm, ⟨11, _⟩ => ⟨S4x2048x2048, .f32⟩
  | .hbm, ⟨12, _⟩ => ⟨S4x2048x64, .f32⟩
  | .hbm, ⟨13, _⟩ => ⟨S4x2048x64, .i32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x64, .f32⟩
  | .hbm, ⟨21, _⟩ => ⟨S4x2048x64, .f32⟩
  | .hbm, ⟨22, _⟩ => ⟨S4x2048x64, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x64, .f32⟩
  | .hbm, ⟨27, _⟩ => ⟨S4x2048x64, .f32⟩
  | .hbm, ⟨28, _⟩ => ⟨S8192x1024, .f32⟩
  | .hbm, ⟨29, _⟩ => ⟨S4x2048x1024, .f32⟩
  | .hbm, ⟨30, _⟩ => ⟨S4x2048x32, .f32⟩
  | .hbm, ⟨31, _⟩ => ⟨S4x2048x32, .i32⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | .hbm, ⟨37, _⟩ => ⟨S4x2048x1, .f32⟩
  | .hbm, ⟨38, _⟩ => ⟨S4x2048x32, .f32⟩
  | .hbm, ⟨39, _⟩ => ⟨S4x2048x32, .f32⟩
  | .hbm, ⟨40, _⟩ => ⟨S4x2048x32, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x32, .f32⟩
  | .hbm, ⟨45, _⟩ => ⟨S4x2048x32, .f32⟩
  | .hbm, ⟨46, _⟩ => ⟨S8192x2048, .f32⟩
  | .hbm, ⟨47, _⟩ => ⟨S4x2048x2048, .f32⟩
  | .hbm, ⟨48, _⟩ => ⟨S4x2048x64, .f32⟩
  | .hbm, ⟨49, _⟩ => ⟨S4x2048x64, .i32⟩
  | .hbm, ⟨50, _⟩ => ⟨S_, .f32⟩
  | .hbm, ⟨51, _⟩ => ⟨S4x2048, .f32⟩
  | .hbm, ⟨52, _⟩ => ⟨S_, .f32⟩
  | .hbm, ⟨53, _⟩ => ⟨S4x2048, .f32⟩
  | .hbm, ⟨54, _⟩ => ⟨S4x2048, .f32⟩
  | .hbm, ⟨55, _⟩ => ⟨S4x2048x1, .f32⟩
  | .hbm, ⟨56, _⟩ => ⟨S4x2048x64, .f32⟩
  | .hbm, ⟨57, _⟩ => ⟨S4x2048x64, .f32⟩
  | .hbm, ⟨58, _⟩ => ⟨S4x2048x64, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S4x2048x64, .f32⟩
  | .hbm, ⟨63, _⟩ => ⟨S4x2048x64, .f32⟩
  | .hbm, ⟨64, _⟩ => ⟨S8192x2048, .f32⟩
  | .hbm, ⟨65, _⟩ => ⟨S4x2048x2048, .f32⟩
  | .hbm, ⟨66, _⟩ => ⟨S4x2048x64, .f32⟩
  | .hbm, ⟨67, _⟩ => ⟨S4x2048x64, .i32⟩
  | .hbm, ⟨68, _⟩ => ⟨S_, .f32⟩
  | .hbm, ⟨69, _⟩ => ⟨S4x2048, .f32⟩
  | .hbm, ⟨70, _⟩ => ⟨S_, .f32⟩
  | .hbm, ⟨71, _⟩ => ⟨S4x2048, .f32⟩
  | .hbm, ⟨72, _⟩ => ⟨S4x2048, .f32⟩
  | .hbm, ⟨73, _⟩ => ⟨S4x2048x1, .f32⟩
  | .hbm, ⟨74, _⟩ => ⟨S4x2048x64, .f32⟩
  | .hbm, ⟨75, _⟩ => ⟨S4x2048x64, .f32⟩
  | .hbm, ⟨76, _⟩ => ⟨S4x2048x64, .f32⟩
  | .hbm, ⟨77, _⟩ => ⟨S_, .f32⟩
  | .hbm, ⟨78, _⟩ => ⟨S4x2048, .f32⟩
  | .hbm, ⟨79, _⟩ => ⟨S4x2048x1, .f32⟩
  | .hbm, ⟨80, _⟩ => ⟨S4x2048x64, .f32⟩
  | .hbm, ⟨81, _⟩ => ⟨S4x2048x64, .f32⟩
  | .hbm, ⟨82, _⟩ => ⟨S8192x1024, .f32⟩
  | .hbm, ⟨83, _⟩ => ⟨S4x2048x1024, .f32⟩
  | .hbm, ⟨84, _⟩ => ⟨S4x2048x32, .f32⟩
  | .hbm, ⟨85, _⟩ => ⟨S4x2048x32, .i32⟩
  | .hbm, ⟨86, _⟩ => ⟨S_, .f32⟩
  | .hbm, ⟨87, _⟩ => ⟨S4x2048, .f32⟩
  | .hbm, ⟨88, _⟩ => ⟨S_, .f32⟩
  | .hbm, ⟨89, _⟩ => ⟨S4x2048, .f32⟩
  | .hbm, ⟨90, _⟩ => ⟨S4x2048, .f32⟩
  | .hbm, ⟨91, _⟩ => ⟨S4x2048x1, .f32⟩
  | .hbm, ⟨92, _⟩ => ⟨S4x2048x32, .f32⟩
  | .hbm, ⟨93, _⟩ => ⟨S4x2048x32, .f32⟩
  | .hbm, ⟨94, _⟩ => ⟨S4x2048x32, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S4x2048x32, .f32⟩
  | .hbm, ⟨99, _⟩ => ⟨S4x2048x32, .f32⟩
  | .local _ .vmem, ⟨0, _⟩ => ⟨S256x1024, .f32⟩
  | .local _ .vmem, ⟨1, _⟩ => ⟨S256x1024, .f32⟩
  | .local _ .vmem, ⟨2, _⟩ => ⟨S1024x64, .f32⟩
  | .local _ .vmem, ⟨3, _⟩ => ⟨S1x64, .f32⟩
  | .local _ .vmem, ⟨4, _⟩ => ⟨S8192x64, .f32⟩
  | .local _ .vmem, ⟨5, _⟩ => ⟨S256x8192, .f32⟩
  | .local _ .vmem, ⟨6, _⟩ => ⟨S256x8192, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_values_2 : Ref sig .tc := ⟨.hbm, 30, rfl⟩
abbrev main_indices_3 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_values_7 : Ref sig .tc := ⟨.hbm, 48, rfl⟩
abbrev main_indices_8 : Ref sig .tc := ⟨.hbm, 49, rfl⟩
abbrev main_cst_9 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_values_12 : Ref sig .tc := ⟨.hbm, 66, rfl⟩
abbrev main_indices_13 : Ref sig .tc := ⟨.hbm, 67, rfl⟩
abbrev main_cst_14 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_values_17 : Ref sig .tc := ⟨.hbm, 84, rfl⟩
abbrev main_indices_18 : Ref sig .tc := ⟨.hbm, 85, rfl⟩
abbrev main_cst_19 : Ref sig .tc := ⟨.hbm, 86, rfl⟩
abbrev main_v59 : Ref sig .tc := ⟨.hbm, 87, rfl⟩
abbrev main_cst_20 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_21 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S10240x64 : Shape := ⟨2, ![10240, 64]⟩
abbrev S2048x64 : Shape := ⟨2, ![2048, 64]⟩
abbrev S4x2048x64 : Shape := ⟨3, ![4, 2048, 64]⟩
abbrev S1x1x64 : Shape := ⟨3, ![1, 1, 64]⟩
abbrev S_ : Shape := ⟨0, ![]⟩
abbrev S2048 : Shape := ⟨1, ![2048]⟩
abbrev S2048x1 : Shape := ⟨2, ![2048, 1]⟩
abbrev S4x2048x2048 : Shape := ⟨3, ![4, 2048, 2048]⟩
abbrev S4x2048 : Shape := ⟨2, ![4, 2048]⟩
abbrev S4x2048x1 : Shape := ⟨3, ![4, 2048, 1]⟩
abbrev S1024 : Shape := ⟨1, ![1024]⟩
abbrev S1024x1 : Shape := ⟨2, ![1024, 1]⟩
abbrev S4x2048x32 : Shape := ⟨3, ![4, 2048, 32]⟩

abbrev nBuf : Space → Nat
  | .hbm => 153
  | .vmem => 0
  | .smem => 0
  | _ => 0

abbrev hbmTy0_0 (i : Nat) : BufTy := match i % 128 with
  | 0 => ⟨S4x2048x1024, .f32⟩
  | 1 => ⟨S1024x64, .f32⟩
  | 2 => ⟨S64, .f32⟩
  | 3 => ⟨S10240x64, .f32⟩
  | 4 => ⟨S2048x64, .f32⟩
  | 5 => ⟨S4x2048x64, .f32⟩
  | 6 => ⟨S1x1x64, .f32⟩
  | 7 => ⟨S4x2048x64, .f32⟩
  | 8 => ⟨S4x2048x64, .f32⟩
  | 9 => ⟨S2048x64, .f32⟩
  | 10 => ⟨S2048x64, .f32⟩
  | 11 => ⟨S_, .f32⟩
  | 12 => ⟨S2048, .f32⟩
  | 13 => ⟨S2048x1, .f32⟩
  | 14 => ⟨S2048x1, .f32⟩
  | 15 => ⟨S_, .f32⟩
  | 16 => ⟨S_, .f32⟩
  | 17 => ⟨S2048x1, .f32⟩
  | 18 => ⟨S2048x1, .f32⟩
  | 19 => ⟨S2048x64, .f32⟩
  | 20 => ⟨S2048x64, .f32⟩
  | 21 => ⟨S4x2048x2048, .f32⟩
  | 22 => ⟨S4x2048x64, .f32⟩
  | 23 => ⟨S4x2048x64, .i32⟩
  | 24 => ⟨S_, .f32⟩
  | 25 => ⟨S4x2048, .f32⟩
  | 26 => ⟨S_, .f32⟩
  | 27 => ⟨S4x2048, .f32⟩
  | 28 => ⟨S4x2048, .f32⟩
  | 29 => ⟨S4x2048x1, .f32⟩
  | 30 => ⟨S4x2048x64, .f32⟩
  | 31 => ⟨S4x2048x64, .f32⟩
  | 32 => ⟨S4x2048x64, .f32⟩
  | 33 => ⟨S_, .f32⟩
  | 34 => ⟨S4x2048, .f32⟩
  | 35 => ⟨S4x2048x1, .f32⟩
  | 36 => ⟨S4x2048x64, .f32⟩
  | 37 => ⟨S4x2048x64, .f32⟩
  | 38 => ⟨S1024x64, .f32⟩
  | 39 => ⟨S1024x64, .f32⟩
  | 40 => ⟨S_, .f32⟩
  | 41 => ⟨S1024, .f32⟩
  | 42 => ⟨S1024x1, .f32⟩
  | 43 => ⟨S1024x1, .f32⟩
  | 44 => ⟨S_, .f32⟩
  | 45 => ⟨S_, .f32⟩
  | 46 => ⟨S1024x1, .f32⟩
  | 47 => ⟨S1024x1, .f32⟩
  | 48 => ⟨S1024x64, .f32⟩
  | 49 => ⟨S1024x64, .f32⟩
  | 50 => ⟨S4x2048x1024, .f32⟩
  | 51 => ⟨S4x2048x32, .f32⟩
  | 52 => ⟨S4x2048x32, .i32⟩
  | 53 => ⟨S_, .f32⟩
  | 54 => ⟨S4x2048, .f32⟩
  | 55 => ⟨S_, .f32⟩
  | 56 => ⟨S4x2048, .f32⟩
  | 57 => ⟨S4x2048, .f32⟩
  | 58 => ⟨S4x2048x1, .f32⟩
  | 59 => ⟨S4x2048x32, .f32⟩
  | 60 => ⟨S4x2048x32, .f32⟩
  | 61 => ⟨S4x2048x32, .f32⟩
  | 62 => ⟨S_, .f32⟩
  | 63 => ⟨S4x2048, .f32⟩
  | 64 => ⟨S4x2048x1, .f32⟩
  | 65 => ⟨S4x2048x32, .f32⟩
  | 66 => ⟨S4x2048x32, .f32⟩
  | 67 => ⟨S2048x64, .f32⟩
  | 68 => ⟨S2048x64, .f32⟩
  | 69 => ⟨S_, .f32⟩
  | 70 => ⟨S2048, .f32⟩
  | 71 => ⟨S2048x1, .f32⟩
  | 72 => ⟨S2048x1, .f32⟩
  | 73 => ⟨S_, .f32⟩
  | 74 => ⟨S_, .f32⟩
  | 75 => ⟨S2048x1, .f32⟩
  | 76 => ⟨S2048x1, .f32⟩
  | 77 => ⟨S2048x64, .f32⟩
  | 78 => ⟨S2048x64, .f32⟩
  | 79 => ⟨S4x2048x2048, .f32⟩
  | 80 => ⟨S4x2048x64, .f32⟩
  | 81 => ⟨S4x2048x64, .i32⟩
  | 82 => ⟨S_, .f32⟩
  | 83 => ⟨S4x2048, .f32⟩
  | 84 => ⟨S_, .f32⟩
  | 85 => ⟨S4x2048, .f32⟩
  | 86 => ⟨S4x2048, .f32⟩
  | 87 => ⟨S4x2048x1, .f32⟩
  | 88 => ⟨S4x2048x64, .f32⟩
  | 89 => ⟨S4x2048x64, .f32⟩
  | 90 => ⟨S4x2048x64, .f32⟩
  | 91 => ⟨S_, .f32⟩
  | 92 => ⟨S4x2048, .f32⟩
  | 93 => ⟨S4x2048x1, .f32⟩
  | 94 => ⟨S4x2048x64, .f32⟩
  | 95 => ⟨S4x2048x64, .f32⟩
  | 96 => ⟨S2048x64, .f32⟩
  | 97 => ⟨S_, .f32⟩
  | 98 => ⟨S2048, .f32⟩
  | 99 => ⟨S2048x1, .f32⟩
  | 100 => ⟨S2048x1, .f32⟩
  | 101 => ⟨S_, .f32⟩
  | 102 => ⟨S_, .f32⟩
  | 103 => ⟨S2048x1, .f32⟩
  | 104 => ⟨S2048x1, .f32⟩
  | 105 => ⟨S2048x64, .f32⟩
  | 106 => ⟨S2048x64, .f32⟩
  | 107 => ⟨S4x2048x2048, .f32⟩
  | 108 => ⟨S4x2048x64, .f32⟩
  | 109 => ⟨S4x2048x64, .i32⟩
  | 110 => ⟨S_, .f32⟩
  | 111 => ⟨S4x2048, .f32⟩
  | 112 => ⟨S_, .f32⟩
  | 113 => ⟨S4x2048, .f32⟩
  | 114 => ⟨S4x2048, .f32⟩
  | 115 => ⟨S4x2048x1, .f32⟩
  | 116 => ⟨S4x2048x64, .f32⟩
  | 117 => ⟨S4x2048x64, .f32⟩
  | 118 => ⟨S4x2048x64, .f32⟩
  | 119 => ⟨S_, .f32⟩
  | 120 => ⟨S4x2048, .f32⟩
  | 121 => ⟨S4x2048x1, .f32⟩
  | 122 => ⟨S4x2048x64, .f32⟩
  | 123 => ⟨S4x2048x64, .f32⟩
  | 124 => ⟨S1024x64, .f32⟩
  | 125 => ⟨S1024x64, .f32⟩
  | 126 => ⟨S_, .f32⟩
  | 127 => ⟨S1024, .f32⟩
  | _ => ⟨S4x2048x1024, .f32⟩

abbrev hbmTy0_1 (i : Nat) : BufTy := match i % 128 with
  | 0 => ⟨S1024x1, .f32⟩
  | 1 => ⟨S1024x1, .f32⟩
  | 2 => ⟨S_, .f32⟩
  | 3 => ⟨S_, .f32⟩
  | 4 => ⟨S1024x1, .f32⟩
  | 5 => ⟨S1024x1, .f32⟩
  | 6 => ⟨S1024x64, .f32⟩
  | 7 => ⟨S1024x64, .f32⟩
  | 8 => ⟨S4x2048x1024, .f32⟩
  | 9 => ⟨S4x2048x32, .f32⟩
  | 10 => ⟨S4x2048x32, .i32⟩
  | 11 => ⟨S_, .f32⟩
  | 12 => ⟨S4x2048, .f32⟩
  | 13 => ⟨S_, .f32⟩
  | 14 => ⟨S4x2048, .f32⟩
  | 15 => ⟨S4x2048, .f32⟩
  | 16 => ⟨S4x2048x1, .f32⟩
  | 17 => ⟨S4x2048x32, .f32⟩
  | 18 => ⟨S4x2048x32, .f32⟩
  | 19 => ⟨S4x2048x32, .f32⟩
  | 20 => ⟨S_, .f32⟩
  | 21 => ⟨S4x2048, .f32⟩
  | 22 => ⟨S4x2048x1, .f32⟩
  | 23 => ⟨S4x2048x32, .f32⟩
  | 24 => ⟨S4x2048x32, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_values : Ref sig .tc := ⟨.hbm, 22, rfl⟩
abbrev main_indices : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_cst_3 : Ref sig .tc := ⟨.hbm, 44, rfl⟩
abbrev main_call3_v0 : Ref sig .tc := ⟨.hbm, 45, rfl⟩
abbrev main_call3_v1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_values_4 : Ref sig .tc := ⟨.hbm, 51, rfl⟩
abbrev main_indices_5 : Ref sig .tc := ⟨.hbm, 52, rfl⟩
abbrev main_cst_6 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_v0 : Ref sig .tc := ⟨.hbm, 68, rfl⟩
abbrev main_call4_cst : Ref sig .tc := ⟨.hbm, 69, rfl⟩
abbrev main_call4_v1 : Ref sig .tc := ⟨.hbm, 70, rfl⟩
abbrev main_call4_v2 : Ref sig .tc := ⟨.hbm, 71, rfl⟩
abbrev main_v39 : Ref sig .tc := ⟨.hbm, 72, rfl⟩
abbrev main_cst_9 : Ref sig .tc := ⟨.hbm, 73, rfl⟩
abbrev main_call5_v0 : Ref sig .tc := ⟨.hbm, 74, rfl⟩
abbrev main_call5_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_values_10 : Ref sig .tc := ⟨.hbm, 80, rfl⟩
abbrev main_indices_11 : Ref sig .tc := ⟨.hbm, 81, rfl⟩
abbrev main_cst_12 : Ref sig .tc := ⟨.hbm, 82, rfl⟩
abbrev main_v44 : Ref sig .tc := ⟨.hbm, 83, rfl⟩
abbrev main_cst_13 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call6_v0 : Ref sig .tc := ⟨.hbm, 96, rfl⟩
abbrev main_call6_cst : Ref sig .tc := ⟨.hbm, 97, rfl⟩
abbrev main_call6_v1 : Ref sig .tc := ⟨.hbm, 98, rfl⟩
abbrev main_call6_v2 : Ref sig .tc := ⟨.hbm, 99, rfl⟩
abbrev main_v55 : Ref sig .tc := ⟨.hbm, 100, rfl⟩
abbrev main_cst_15 : Ref sig .tc := ⟨.hbm, 101, rfl⟩
abbrev main_call7_v0 : Ref sig .tc := ⟨.hbm, 102, rfl⟩
abbrev main_call7_v1 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_values_16 : Ref sig .tc := ⟨.hbm, 108, rfl⟩
abbrev main_indices_17 : Ref sig .tc := ⟨.hbm, 109, rfl⟩
abbrev main_cst_18 : Ref sig .tc := ⟨.hbm, 110, rfl⟩
abbrev main_v60 : Ref sig .tc := ⟨.hbm, 111, rfl⟩
abbrev main_cst_19 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_20 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_call8_v0 : Ref sig .tc := ⟨.hbm, 125, rfl⟩
abbrev main_call8_cst : Ref sig .tc := ⟨.hbm, 126, rfl⟩
abbrev main_call8_v1 : Ref sig .tc := ⟨.hbm, 127, rfl⟩
abbrev main_call8_v2 : Ref sig .tc := ⟨.hbm, 128, rfl⟩
abbrev main_v72 : Ref sig .tc := ⟨.hbm, 129, rfl⟩
abbrev main_cst_21 : Ref sig .tc := ⟨.hbm, 130, rfl⟩
abbrev main_call9_v0 : Ref sig .tc := ⟨.hbm, 131, rfl⟩
abbrev main_call9_v1 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_values_22 : Ref sig .tc := ⟨.hbm, 137, rfl⟩
abbrev main_indices_23 : Ref sig .tc := ⟨.hbm, 138, rfl⟩
abbrev main_cst_24 : Ref sig .tc := ⟨.hbm, 139, rfl⟩
abbrev main_v77 : Ref sig .tc := ⟨.hbm, 140, rfl⟩
abbrev main_cst_25 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩

abbrev nD : Nat := 1
abbrev τ : Topo := Topo.v7x

variable {F : FTy → Type} [FloatOps F]
-- ==== Proof.Heads.lean ====
module

public import proofs.«01_k».proof.KernelIdeal
public import proofs.«01_k».proof.Proof.Gen.KernelIdeal
public import Idealize.ShloMosaic.PureOps.Ideal

@[expose] public section

/-! # What the host does with one pool's logits

Both programs end in the same two steps for every pool: a stable top-k of the logits along the last axis, and a softmax of
the values taken. They are named here once, for the pools of 2048 neurons (64 taken) and of 1024 neurons (32 taken). -/

noncomputable section

namespace Cert.Heads

open Idealize.ShloMosaic Cert.KernelIdeal Cert.KernelIdeal.Gen

/-- The 64 largest logits of each token, largest first. -/
def vals64 (l : FVec Ideal S4x2048x2048 .f32) : FVec Ideal S4x2048x64 .f32 :=
  (Host.topK S4x2048x64 2 (FloatOps.cmpfTotal .gt) l sliceFits_S4x2048x2048_S4x2048x64).1

/-- Which neurons they belong to. -/
def idx64 (l : FVec Ideal S4x2048x2048 .f32) : IVec S4x2048x64 32 :=
  (Host.topK S4x2048x64 2 (FloatOps.cmpfTotal .gt) l sliceFits_S4x2048x2048_S4x2048x64).2

/-- The 32 largest logits of each token, largest first. -/
def vals32 (l : FVec Ideal S4x2048x1024 .f32) : FVec Ideal S4x2048x32 .f32 :=
  (Host.topK S4x2048x32 2 (FloatOps.cmpfTotal .gt) l sliceFits_S4x2048x1024_S4x2048x32).1

/-- Which neurons they belong to. -/
def idx32 (l : FVec Ideal S4x2048x1024 .f32) : IVec S4x2048x32 32 :=
  (Host.topK S4x2048x32 2 (FloatOps.cmpfTotal .gt) l sliceFits_S4x2048x1024_S4x2048x32).2

/-- The softmax along the last axis of a pool's 64 values, as the host computes it: their greatest is taken away first. -/
def soft64 (v : FVec Ideal S4x2048x64 .f32) : FVec Ideal S4x2048x64 .f32 :=
  let e := Host.exp (subf v (broadcastInDim S4x2048x64 ![0, 1, 2] bcast_S4x2048x1_S4x2048x64_0_1_2
    (broadcastInDim S4x2048x1 ![0, 1] bcast_S4x2048_S4x2048x1_0_1
      (maximumf (broadcastInDim S4x2048 ![] bcast_S_S4x2048 (constant (F := Ideal) S_ .f32 0xFF800000#32))
        (Host.reduce FloatOps.maximumf v (constant (F := Ideal) S_ .f32 0xFF800000#32) reducesTo_S4x2048x64_S4x2048_d2 h_S_)))))
  Host.divf e (broadcastInDim S4x2048x64 ![0, 1, 2] bcast_S4x2048x1_S4x2048x64_0_1_2
    (broadcastInDim S4x2048x1 ![0, 1] bcast_S4x2048_S4x2048x1_0_1
      (Host.reduceAdd e (constant (F := Ideal) S_ .f32 0x00000000#32) reducesTo_S4x2048x64_S4x2048_d2 h_S_)))

/-- The softmax along the last axis of a pool's 32 values, as the host computes it: their greatest is taken away first. -/
def soft32 (v : FVec Ideal S4x2048x32 .f32) : FVec Ideal S4x2048x32 .f32 :=
  let e := Host.exp (subf v (broadcastInDim S4x2048x32 ![0, 1, 2] bcast_S4x2048x1_S4x2048x32_0_1_2
    (broadcastInDim S4x2048x1 ![0, 1] bcast_S4x2048_S4x2048x1_0_1
      (maximumf (broadcastInDim S4x2048 ![] bcast_S_S4x2048 (constant (F := Ideal) S_ .f32 0xFF800000#32))
        (Host.reduce FloatOps.maximumf v (constant (F := Ideal) S_ .f32 0xFF800000#32) reducesTo_S4x2048x32_S4x2048_d2 h_S_)))))
  Host.divf e (broadcastInDim S4x2048x32 ![0, 1, 2] bcast_S4x2048x1_S4x2048x32_0_1_2
    (broadcastInDim S4x2048x1 ![0, 1] bcast_S4x2048_S4x2048x1_0_1
      (Host.reduceAdd e (constant (F := Ideal) S_ .f32 0x00000000#32) reducesTo_S4x2048x32_S4x2048_d2 h_S_)))

end Cert.Heads

end
-- ==== Proof.KernelRun.lean ====
module

public import proofs.«01_k».proof.Proof.Heads
public import proofs.«01_k».proof.Proof.Gen.KernelIdeal.Frame
public import Idealize.ShloMosaic.Lib.Claim
public import Idealize.ShloMosaic.Lib.StableHlo.RunRead

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array the region leaves: every token's logits against all 8192 rows of the concatenated embeddings. -/
abbrev out (c : Dev nD) : FVec Ideal S8192x8192 .f32 := (dats m 0 c).arrAt 4 cfg0.N

/-- The kernel's logits of the pool `fqk`: its columns of the region's array. -/
def fqk (c : Dev nD) : FVec Ideal S4x2048x2048 .f32 :=
  shapeCast S4x2048x2048 (extractStridedSlice S8192x2048 ![0, 0] (out m c) slices_S8192x8192_S8192x2048_0_0)
    shapeCasts_S8192x2048_S4x2048x2048

/-- The kernel's logits of the pool `fv`: its columns of the region's array. -/
def fv (c : Dev nD) : FVec Ideal S4x2048x1024 .f32 :=
  shapeCast S4x2048x1024 (extractStridedSlice S8192x1024 ![0, 2048] (out m c) slices_S8192x8192_S8192x1024_0_2048)
    shapeCasts_S8192x1024_S4x2048x1024

/-- The kernel's logits of the pool `rq`: its columns of the region's array. -/
def rq (c : Dev nD) : FVec Ideal S4x2048x2048 .f32 :=
  shapeCast S4x2048x2048 (extractStridedSlice S8192x2048 ![0, 3072] (out m c) slices_S8192x8192_S8192x2048_0_3072)
    shapeCasts_S8192x2048_S4x2048x2048

/-- The kernel's logits of the pool `rk`: its columns of the region's array. -/
def rk (c : Dev nD) : FVec Ideal S4x2048x2048 .f32 :=
  shapeCast S4x2048x2048 (extractStridedSlice S8192x2048 ![0, 6144] (out m c) slices_S8192x8192_S8192x2048_0_6144)
    shapeCasts_S8192x2048_S4x2048x2048

/-- The kernel's logits of the pool `v`: its columns of the region's array. -/
def v (c : Dev nD) : FVec Ideal S4x2048x1024 .f32 :=
  shapeCast S4x2048x1024 (extractStridedSlice S8192x1024 ![0, 5120] (out m c) slices_S8192x8192_S8192x1024_0_5120)
    shapeCasts_S8192x1024_S4x2048x1024

/-- The region's array, read among the buffers as the region leaves them. -/
theorem at_out (c : Dev nD) :
    Pipeline.withArrays (cfgs 0).spec c (V0 m c) (fun w => (dats m 0 c).arrAt w (cfgs 0).N) (no_index (Proc.devRef .tc main_v4)) = out m c :=
  Pipeline.withArrays_arr (cfgs 0).spec (by decide) c (V0 m c) _ 4

set_option maxHeartbeats 16000000 in
/-- The kernel's run: each pool's weights and indices are the softmax and the top-k of its columns of the region's array. -/
theorem run : θ_run (defs (F := Ideal)) (onTc (τ := τ) (main (F := Ideal))) ⟨m, fun _ => 0, ρ⟩ fun r => ∀ c : Dev nD,
    r.2.mem ((c.tc : Thread nD τ).loc main_v17) = Heads.soft64 (Heads.vals64 (fqk m c))
    ∧ r.2.mem ((c.tc : Thread nD τ).loc main_indices) = Heads.idx64 (fqk m c)
    ∧ r.2.mem ((c.tc : Thread nD τ).loc main_v30) = Heads.soft32 (Heads.vals32 (fv m c))
    ∧ r.2.mem ((c.tc : Thread nD τ).loc main_indices_3) = Heads.idx32 (fv m c)
    ∧ r.2.mem ((c.tc : Thread nD τ).loc main_v43) = Heads.soft64 (Heads.vals64 (rq m c))
    ∧ r.2.mem ((c.tc : Thread nD τ).loc main_indices_8) = Heads.idx64 (rq m c)
    ∧ r.2.mem ((c.tc : Thread nD τ).loc main_v56) = Heads.soft64 (Heads.vals64 (rk m c))
    ∧ r.2.mem ((c.tc : Thread nD τ).loc main_indices_13) = Heads.idx64 (rk m c)
    ∧ r.2.mem ((c.tc : Thread nD τ).loc main_v69) = Heads.soft32 (Heads.vals32 (v m c))
    ∧ r.2.mem ((c.tc : Thread nD τ).loc main_indices_18) = Heads.idx32 (v m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from run_main m ρ
  all_goals first
    | with_reducible exact W_main_arg0 m (dats m) c
    | with_reducible exact W_main_arg2 m (dats m) c
    | with_reducible exact W_main_arg3 m (dats m) c
    | with_reducible exact W_main_arg4 m (dats m) c
    | (unfold Pipeline.afterTail₀
       simp only [List.flatten_cons, List.flatten_nil, List.append_nil]
       after_reads_simp [at_out]
       rfl)

end Cert.KernelIdeal.Hand

end
-- ==== Proof.RefRun.lean ====
module

public import proofs.«01_k».proof.Defs
public import proofs.«01_k».proof.Proof.Heads
public import proofs.«01_k».proof.Proof.Gen.ReferenceIdeal
public import Idealize.ShloMosaic.Lib.Claim
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem

variable (m : (ℓ : Loc nD τ sig) → Buf (Elt Ideal) ℓ) (g : Dev nD → PrngReg)

/-- The hidden rows: `x` times the projection, plus the bias. -/
def hidden (x : FVec Ideal S4x2048x1024 .f32) (w : FVec Ideal S1024x64 .f32) (b : FVec Ideal S64 .f32) :
    FVec Ideal S4x2048x64 .f32 :=
  addf (Host.dotGeneral dot_S4x2048x1024_S1024x64_S4x2048x64_2_0_01_1_n_n none x w)
    (broadcastInDim S4x2048x64 ![0, 1, 2] bcast_S1x1x64_S4x2048x64_0_1_2 (broadcastInDim S1x1x64 ![2] bcast_S64_S1x1x64_2 b))

/-- The logits of the hidden rows `h` against a pool of 2048 neurons: inner products with the rows of `e`, each row divided by
    its length, and by 1e-12 where its length is less. -/
def logits2048 (h : FVec Ideal S4x2048x64 .f32) (e : FVec Ideal S2048x64 .f32) : FVec Ideal S4x2048x2048 .f32 :=
  Host.dotGeneral dot_S4x2048x64_S2048x64_S4x2048x2048_2_1_01_0_n_n none h
    (Host.divf e (broadcastInDim S2048x64 ![0, 1] bcast_S2048x1_S2048x64_0_1
      (maximumf (broadcastInDim S2048x1 ![] bcast_S_S2048x1 (constant (F := Ideal) S_ .f32 0x2B8CBCCC#32))
        (Host.sqrt (broadcastInDim S2048x1 ![0] bcast_S2048_S2048x1_0
          (Host.reduceAdd (mulf e e) (constant (F := Ideal) S_ .f32 0x00000000#32) reducesTo_S2048x64_S2048_d1 h_S_))))))

/-- The logits of the hidden rows `h` against a pool of 1024 neurons: inner products with the rows of `e`, each row divided by
    its length, and by 1e-12 where its length is less. -/
def logits1024 (h : FVec Ideal S4x2048x64 .f32) (e : FVec Ideal S1024x64 .f32) : FVec Ideal S4x2048x1024 .f32 :=
  Host.dotGeneral dot_S4x2048x64_S1024x64_S4x2048x1024_2_1_01_0_n_n none h
    (Host.divf e (broadcastInDim S1024x64 ![0, 1] bcast_S1024x1_S1024x64_0_1
      (maximumf (broadcastInDim S1024x1 ![] bcast_S_S1024x1 (constant (F := Ideal) S_ .f32 0x2B8CBCCC#32))
        (Host.sqrt (broadcastInDim S1024x1 ![0] bcast_S1024_S1024x1_0
          (Host.reduceAdd (mulf e e) (constant (F := Ideal) S_ .f32 0x00000000#32) reducesTo_S1024x64_S1024_d1 h_S_))))))

/-- The reference's logits of the pool `fqk`. -/
def fqk (c : Dev nD) : FVec Ideal S4x2048x2048 .f32 :=
  logits2048 (hidden (m ((c.tc : Thread nD τ).loc main_arg0)) (m ((c.tc : Thread nD τ).loc main_arg1)) (m ((c.tc : Thread nD τ).loc main_arg2)))
    (extractStridedSlice S2048x64 ![0, 0] (m ((c.tc : Thread nD τ).loc main_arg3)) slices_S10240x64_S2048x64_0_0)

/-- The reference's logits of the pool `fv`. -/
def fv (c : Dev nD) : FVec Ideal S4x2048x1024 .f32 :=
  logits1024 (hidden (m ((c.tc : Thread nD τ).loc main_arg0)) (m ((c.tc : Thread nD τ).loc main_arg1)) (m ((c.tc : Thread nD τ).loc main_arg2)))
    (extractStridedSlice S1024x64 ![2048, 0] (m ((c.tc : Thread nD τ).loc main_arg3)) slices_S10240x64_S1024x64_2048_0)

/-- The reference's logits of the pool `rq`. -/
def rq (c : Dev nD) : FVec Ideal S4x2048x2048 .f32 :=
  logits2048 (hidden (m ((c.tc : Thread nD τ).loc main_arg0)) (m ((c.tc : Thread nD τ).loc main_arg1)) (m ((c.tc : Thread nD τ).loc main_arg2)))
    (extractStridedSlice S2048x64 ![3072, 0] (m ((c.tc : Thread nD τ).loc main_arg3)) slices_S10240x64_S2048x64_3072_0)

/-- The reference's logits of the pool `rk`. -/
def rk (c : Dev nD) : FVec Ideal S4x2048x2048 .f32 :=
  logits2048 (hidden (m ((c.tc : Thread nD τ).loc main_arg0)) (m ((c.tc : Thread nD τ).loc main_arg1)) (m ((c.tc : Thread nD τ).loc main_arg2)))
    (m ((c.tc : Thread nD τ).loc main_arg4))

/-- The reference's logits of the pool `v`. -/
def v (c : Dev nD) : FVec Ideal S4x2048x1024 .f32 :=
  logits1024 (hidden (m ((c.tc : Thread nD τ).loc main_arg0)) (m ((c.tc : Thread nD τ).loc main_arg1)) (m ((c.tc : Thread nD τ).loc main_arg2)))
    (extractStridedSlice S1024x64 ![5120, 0] (m ((c.tc : Thread nD τ).loc main_arg3)) slices_S10240x64_S1024x64_5120_0)

set_option maxHeartbeats 4000000 in
/-- The reference terminates, leaves its arguments as they were, and has no semaphore to leave raised. -/
theorem quiescent : Cert.quiescent_ReferenceIdeal := by
  intro m g _
  hlo_run
  · exact fun _ => ⟨trivial, trivial, trivial, trivial, trivial⟩
  · exact sem_eq_zero_of_no_sems (sig := sig) rfl _

set_option maxHeartbeats 16000000 in
/-- The reference's run: each pool's weights and indices are the softmax and the top-k of its logits. -/
theorem run : θ_run (defs (F := Ideal)) (onTc (τ := τ) (main (F := Ideal))) ⟨m, fun _ => 0, g⟩ fun r => ∀ c : Dev nD,
    r.2.mem ((c.tc : Thread nD τ).loc main_v20) = Heads.soft64 (Heads.vals64 (fqk m c))
    ∧ r.2.mem ((c.tc : Thread nD τ).loc main_indices) = Heads.idx64 (fqk m c)
    ∧ r.2.mem ((c.tc : Thread nD τ).loc main_v37) = Heads.soft32 (Heads.vals32 (fv m c))
    ∧ r.2.mem ((c.tc : Thread nD τ).loc main_indices_5) = Heads.idx32 (fv m c)
    ∧ r.2.mem ((c.tc : Thread nD τ).loc main_v54) = Heads.soft64 (Heads.vals64 (rq m c))
    ∧ r.2.mem ((c.tc : Thread nD τ).loc main_indices_11) = Heads.idx64 (rq m c)
    ∧ r.2.mem ((c.tc : Thread nD τ).loc main_v70) = Heads.soft64 (Heads.vals64 (rk m c))
    ∧ r.2.mem ((c.tc : Thread nD τ).loc main_indices_17) = Heads.idx64 (rk m c)
    ∧ r.2.mem ((c.tc : Thread nD τ).loc main_v87) = Heads.soft32 (Heads.vals32 (v m c))
    ∧ r.2.mem ((c.tc : Thread nD τ).loc main_indices_23) = Heads.idx32 (v m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  hlo_run
  all_goals rfl

end Cert.ReferenceIdeal.Hand

end
-- ==== Proof.Value.lean ====
module

public import proofs.«01_k».proof.Proof.KernelRun
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- One logit, from the rows and columns it is made of. -/
def logit (x : Fin 1024 → EReal) (w : Fin 1024 → Fin 64 → EReal) (b e : Fin 64 → EReal) : EReal :=
  ∑ d, ((∑ k, x k * w k d) + b d) * (e d * Ideal.rsqrt (max (∑ d, e d * e d) (Named.named κ "eps_sq" 0x179ABE15#32 : Ideal .f32)))

/-- The region's array as one function: row `i` of the tokens against row `j` of the concatenated embeddings. -/
def G (c : Dev nD) : FVec Ideal S8192x8192 .f32 := fun i =>
  logit (fun k => V m c main_v0 (ix2 (i 0) k)) (fun k d => V m c main_arg1 (ix2 k d)) (fun d => V m c main_v3 (ix2 0 d))
    (fun d => V m c main_v2 (ix2 (i 1) d))

/-- Where each window stands at grid point `t`: the tokens' and the result's move along the rows, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] := by decide +kernel

/-- The array that the 32 grid points write, 256 rows each, is `G`. -/
theorem out_eq (c : Dev nD) : out m c = G m c := by
  refine (dats m 0 c).arrAt_eq_of_covers 4 _ (by decide +kernel) fun t hf y => ?_
  blk_simp
  rw [after0_4]
  frame_out
  pointwise [k0_pay1]
  unfold G logit
  have h0 : ∀ k, iblk m c 0 t (ix2 (y 0) k) = V m c main_v0 (ix2 (((View.whole main_v4).slice (win0_4.rect t)).emb y 0) k) := fun k => by
    blk_ext [iblk, idx t]
  have h1 : ∀ k d, iblk m c 1 t (ix2 k d) = V m c main_arg1 (ix2 k d) := fun k d => by
    blk_ext [iblk, idx t]
  have h2 : ∀ d, iblk m c 2 t (ix2 0 d) = V m c main_v3 (ix2 0 d) := fun d => by
    blk_ext [iblk, idx t]
  have h3 : ∀ d, iblk m c 3 t (ix2 (y 1) d) = V m c main_v2 (ix2 (((View.whole main_v4).slice (win0_4.rect t)).emb y 1) d) := fun d => by
    blk_ext [iblk, idx t]
  simp only [h0, h1, h2, h3]

end Cert.KernelIdeal.Hand

end
-- ==== Proof.Unit.lean ====
module

public import proofs.«01_k».proof.KernelIdeal
public import Idealize.ShloMosaic.PureOps.Ideal
public import Idealize.ShloMosaic.PureOps.IdealRules
public import Idealize.ShloMosaic.Lib.Pointwise

@[expose] public section

/-! # A row divided by its length

The kernel multiplies a row by `1 / √(max(s, ε²))`, the reference divides it by `max(ε, √s)`, where `s` is the sum of the
row's squares. Over the extended reals these agree for every row: where `s` is finite because the root is monotone, and
where `s` is infinite because both sides are zero. -/

noncomputable section

namespace Cert.Unit

open Idealize.ShloMosaic

/-- The reference's least length: 1e-12 as a single-precision float holds it. -/
abbrev clip : ℝ := 2305843 / 2305843009213693952

/-- The float word of the reference's constant denotes `clip`. -/
theorem word_clip : Ideal.ofBits .f32 0x2B8CBCCC#32 = ((clip : ℝ) : EReal) := by
  simp [Ideal.ofBits, Ideal.ieee, -EReal.coe_mul]
  norm_num

/-- The kernel's named constant is the square of `clip`. -/
theorem named_eps : (Named.named Cert.KernelIdeal.κ "eps_sq" 0x179ABE15#32 : Ideal .f32) = ((clip ^ 2 : ℝ) : EReal) :=
  (IdealRules.named_const.ideal_named_scalar _ _ _ _ rfl).trans (by norm_num)

/-- A square is not negative, an infinite one neither. -/
theorem sq_nonneg' (x : EReal) : 0 ≤ x * x := by
  induction x with
  | bot => simp
  | top => simp
  | coe r => exact_mod_cast mul_self_nonneg r

/-- The two ways of scaling by the length agree, whatever the entry `x` and the sum of squares `s`. -/
theorem scale_eq (x s : EReal) (hs : 0 ≤ s) :
    x * Ideal.rsqrt (max s ((clip ^ 2 : ℝ) : EReal)) = Ideal.div x (max ((clip : ℝ) : EReal) (Ideal.sqrt s)) := by
  have hc : (0 : ℝ) < clip := by norm_num
  induction s with
  | bot => simp at hs
  | top => simp [Ideal.div]
  | coe r =>
    have hr : 0 ≤ r := by exact_mod_cast hs
    have hm : 0 < max r (clip ^ 2) := lt_max_of_lt_right (by positivity)
    have hroot : √(max r (clip ^ 2)) = max clip √r := by
      rw [Real.sqrt_monotone.map_max, Real.sqrt_sq hc.le, max_comm]
    rw [Ideal.sqrt_coe, if_neg hr.not_gt, ← EReal.coe_strictMono.monotone.map_max, ← EReal.coe_strictMono.monotone.map_max, Ideal.rsqrt_coe,
      if_neg hm.le.not_gt, if_neg hm.ne', hroot, Ideal.div_coe (lt_max_of_lt_left hc).ne', one_div]

/-- The same for an entry of a row of 64, the constants as the two programs hold them. -/
theorem row_eq (e : Fin 64 → EReal) (d : Fin 64) :
    e d * Ideal.rsqrt (max (∑ k, e k * e k) (Named.named Cert.KernelIdeal.κ "eps_sq" 0x179ABE15#32 : Ideal .f32))
      = Ideal.div (e d) (max (Ideal.ofBits .f32 0x2B8CBCCC#32) (Ideal.sqrt (∑ k, e k * e k))) := by
  rw [word_clip, named_eps]
  exact scale_eq _ _ (Finset.sum_nonneg fun k _ => sq_nonneg' (e k))

end Cert.Unit

end
-- ==== Proof.Tie.lean ====
module

public import proofs.«01_k».proof.Proof.RefRun
public import proofs.«01_k».proof.Proof.Value
public import proofs.«01_k».proof.Proof.Unit
public import Idealize.ShloMosaic.Lib.StableHlo.ReadAt

@[expose] public section

set_option maxRecDepth 16384

/-! # The kernel's logits are the reference's

Token `(a, b)` is row `2048 a + b` of the region's array, and a pool's neurons are consecutive columns of it. An element of
the array and the reference's logit are then the same sum over the 64 coordinates, by `Unit.row_eq` in each term. -/

noncomputable section

namespace Cert.Tie

open Idealize.ShloMosaic Idealize.ShloMosaic.TcCoe Cert.KernelIdeal Cert.KernelIdeal.Gen

/-- One of the reference's logits, from a row of `e` and the hidden row. -/
def refLogit (h e : Fin 64 → EReal) : EReal :=
  ∑ d, h d * Ideal.div (e d) (max (Ideal.ofBits .f32 0x2B8CBCCC#32) (Ideal.sqrt (∑ k, e k * e k)))

/-- The reference's logits of a pool of 2048 neurons, at one token and one neuron. -/
theorem logits2048_at (h : FVec Ideal S4x2048x64 .f32) (e : FVec Ideal S2048x64 .f32) (a : Fin 4) (b n : Fin 2048) :
    ReferenceIdeal.Hand.logits2048 h e (ix3 a b n) = refLogit (fun d => h (ix3 a b d)) (fun d => e (ix2 n d)) := by
  unfold ReferenceIdeal.Hand.logits2048 refLogit
  pointwise

/-- The reference's logits of a pool of 1024 neurons, at one token and one neuron. -/
theorem logits1024_at (h : FVec Ideal S4x2048x64 .f32) (e : FVec Ideal S1024x64 .f32) (a : Fin 4) (b : Fin 2048) (n : Fin 1024) :
    ReferenceIdeal.Hand.logits1024 h e (ix3 a b n) = refLogit (fun d => h (ix3 a b d)) (fun d => e (ix2 n d)) := by
  unfold ReferenceIdeal.Hand.logits1024 refLogit
  pointwise

variable (m : (ℓ : Loc nD τ sig) → Buf (Elt Ideal) ℓ) (c : Dev nD)

/-- The hidden rows of the reference, from the kernel's arguments. -/
abbrev hid : FVec Ideal S4x2048x64 .f32 :=
  ReferenceIdeal.Hand.hidden (m ((c.tc : Thread nD τ).loc main_arg0)) (m ((c.tc : Thread nD τ).loc main_arg1)) (m ((c.tc : Thread nD τ).loc main_arg2))

/-- The kernel's tokens are the reference's, in rows. -/
theorem x_at (a : Fin 4) (b : Fin 2048) (k : Fin 1024) (h : a.val * 2048 + b.val < 8192) :
    V m c main_v0 (ix2 ⟨a.val * 2048 + b.val, h⟩ k) = (m ((c.tc : Thread nD τ).loc main_arg0)) (ix3 a b k) := by
  simp only [V, V0, List.flatten_cons, List.flatten_nil, List.append_nil]
  after_reads_at
  blk_ext

/-- The projection is as launched. -/
theorem w_at (k : Fin 1024) (d : Fin 64) : V m c main_arg1 (ix2 k d) = (m ((c.tc : Thread nD τ).loc main_arg1)) (ix2 k d) :=
  congrFun (V_main_arg1 m c) _

/-- The kernel's bias is the argument, as one row. -/
theorem bias_at (d : Fin 64) : V m c main_v3 (ix2 0 d) = (m ((c.tc : Thread nD τ).loc main_arg2)) (ix1 d) := by
  simp only [V, V0, List.flatten_cons, List.flatten_nil, List.append_nil]
  after_reads_at

/-- The first 6144 rows of the concatenated embeddings are the first of the large table. -/
theorem emb_low (j : Fin 8192) (d : Fin 64) (h : j.val < 6144) :
    V m c main_v2 (ix2 j d) = (m ((c.tc : Thread nD τ).loc main_arg3)) (ix2 ⟨j.val, by omega⟩ d) := by
  simp only [V, V0, List.flatten_cons, List.flatten_nil, List.append_nil]
  after_reads_at
  rw [dif_pos h]

/-- The others are the second table's. -/
theorem emb_high (n : Fin 2048) (d : Fin 64) (h : 6144 + n.val < 8192) :
    V m c main_v2 (ix2 ⟨6144 + n.val, h⟩ d) = (m ((c.tc : Thread nD τ).loc main_arg4)) (ix2 n d) := by
  simp only [V, V0, List.flatten_cons, List.flatten_nil, List.append_nil]
  after_reads_at

/-- An element of the region's array is the reference's logit of its token and its column's embedding. -/
theorem G_at (a : Fin 4) (b : Fin 2048) (h : a.val * 2048 + b.val < 8192) (j : Fin 8192) (e : Fin 64 → EReal)
    (he : ∀ d, V m c main_v2 (ix2 j d) = e d) :
    KernelIdeal.Hand.G m c (ix2 ⟨a.val * 2048 + b.val, h⟩ j) = refLogit (fun d => hid m c (ix3 a b d)) e := by
  unfold KernelIdeal.Hand.G KernelIdeal.Hand.logit refLogit hid ReferenceIdeal.Hand.hidden
  refine Finset.sum_congr rfl fun d _ => ?_
  refine congrArg₂ (· * ·) ?_ ?_
  · pointwise
    simp only [x_at m c, bias_at m c, w_at m c]
  · pointwise
    simp only [he]
    exact Unit.row_eq e d

/-- The pool `fqk`. -/
theorem fqk : KernelIdeal.Hand.fqk m c = ReferenceIdeal.Hand.logits2048 (hid m c)
    (extractStridedSlice S2048x64 ![0, 0] (m ((c.tc : Thread nD τ).loc main_arg3)) ReferenceIdeal.Gen.slices_S10240x64_S2048x64_0_0) := by
  funext i
  obtain ⟨a, b, n, rfl⟩ : ∃ a b n, i = ix3 a b n := ⟨_, _, _, eq_ix3 i⟩
  unfold KernelIdeal.Hand.fqk
  rw [KernelIdeal.Hand.out_eq, logits2048_at]
  pointwise
  exact G_at m c a b _ _ _ fun d => (emb_low m c _ d (by first | exact n.isLt.trans (by decide) | (have := n.isLt; dsimp only; omega))).trans (by pointwise)

/-- The pool `fv`. -/
theorem fv : KernelIdeal.Hand.fv m c = ReferenceIdeal.Hand.logits1024 (hid m c)
    (extractStridedSlice S1024x64 ![2048, 0] (m ((c.tc : Thread nD τ).loc main_arg3)) ReferenceIdeal.Gen.slices_S10240x64_S1024x64_2048_0) := by
  funext i
  obtain ⟨a, b, n, rfl⟩ : ∃ a b n, i = ix3 a b n := ⟨_, _, _, eq_ix3 i⟩
  unfold KernelIdeal.Hand.fv
  rw [KernelIdeal.Hand.out_eq, logits1024_at]
  pointwise
  exact G_at m c a b _ _ _ fun d => (emb_low m c _ d (by first | exact n.isLt.trans (by decide) | (have := n.isLt; dsimp only; omega))).trans (by pointwise)

/-- The pool `rq`. -/
theorem rq : KernelIdeal.Hand.rq m c = ReferenceIdeal.Hand.logits2048 (hid m c)
    (extractStridedSlice S2048x64 ![3072, 0] (m ((c.tc : Thread nD τ).loc main_arg3)) ReferenceIdeal.Gen.slices_S10240x64_S2048x64_3072_0) := by
  funext i
  obtain ⟨a, b, n, rfl⟩ : ∃ a b n, i = ix3 a b n := ⟨_, _, _, eq_ix3 i⟩
  unfold KernelIdeal.Hand.rq
  rw [KernelIdeal.Hand.out_eq, logits2048_at]
  pointwise
  exact G_at m c a b _ _ _ fun d => (emb_low m c _ d (by first | exact n.isLt.trans (by decide) | (have := n.isLt; dsimp only; omega))).trans (by pointwise)

/-- The pool `rk`. -/
theorem rk : KernelIdeal.Hand.rk m c = ReferenceIdeal.Hand.logits2048 (hid m c)
    (m ((c.tc : Thread nD τ).loc main_arg4)) := by
  funext i
  obtain ⟨a, b, n, rfl⟩ : ∃ a b n, i = ix3 a b n := ⟨_, _, _, eq_ix3 i⟩
  unfold KernelIdeal.Hand.rk
  rw [KernelIdeal.Hand.out_eq, logits2048_at]
  pointwise
  exact G_at m c a b _ _ _ fun d => emb_high m c n d _

/-- The pool `v`. -/
theorem v : KernelIdeal.Hand.v m c = ReferenceIdeal.Hand.logits1024 (hid m c)
    (extractStridedSlice S1024x64 ![5120, 0] (m ((c.tc : Thread nD τ).loc main_arg3)) ReferenceIdeal.Gen.slices_S10240x64_S1024x64_5120_0) := by
  funext i
  obtain ⟨a, b, n, rfl⟩ : ∃ a b n, i = ix3 a b n := ⟨_, _, _, eq_ix3 i⟩
  unfold KernelIdeal.Hand.v
  rw [KernelIdeal.Hand.out_eq, logits1024_at]
  pointwise
  exact G_at m c a b _ _ _ fun d => (emb_low m c _ d (by first | exact n.isLt.trans (by decide) | (have := n.isLt; dsimp only; omega))).trans (by pointwise)

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.Tie
public import Idealize.ShloMosaic.Adequacy
public import Idealize.ShloMosaic.Init

@[expose] public section

set_option maxRecDepth 16384

noncomputable section

namespace Cert.Proof

open Idealize.ShloMosaic Idealize.SL.Sem

/-- From memories that agree on the arguments, the two programs have the same logits in every pool. -/
theorem pools_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Hand.fqk m' c = KernelIdeal.Hand.fqk m c
      ∧ ReferenceIdeal.Hand.fv m' c = KernelIdeal.Hand.fv m c
      ∧ ReferenceIdeal.Hand.rq m' c = KernelIdeal.Hand.rq m c
      ∧ ReferenceIdeal.Hand.rk m' c = KernelIdeal.Hand.rk m c
      ∧ ReferenceIdeal.Hand.v m' c = KernelIdeal.Hand.v m c := by
  rw [Tie.fqk, Tie.fv, Tie.rq, Tie.rk, Tie.v]
  unfold ReferenceIdeal.Hand.fqk ReferenceIdeal.Hand.fv ReferenceIdeal.Hand.rq ReferenceIdeal.Hand.rk ReferenceIdeal.Hand.v
  rw [h0, h1, h2, h3, h4]
  exact ⟨rfl, rfl, rfl, rfl, rfl⟩

/-- Kernel and reference compute the same ten arrays over the extended reals. -/
theorem algebraic : algebraic_KernelIdeal_ReferenceIdeal := by
  intro m g m' g' _ hagree
  refine ⟨fun c => Heads.soft64 (Heads.vals64 (KernelIdeal.Hand.fqk m c)),
    fun c => Heads.idx64 (KernelIdeal.Hand.fqk m c),
    fun c => Heads.soft32 (Heads.vals32 (KernelIdeal.Hand.fv m c)),
    fun c => Heads.idx32 (KernelIdeal.Hand.fv m c),
    fun c => Heads.soft64 (Heads.vals64 (KernelIdeal.Hand.rq m c)),
    fun c => Heads.idx64 (KernelIdeal.Hand.rq m c),
    fun c => Heads.soft64 (Heads.vals64 (KernelIdeal.Hand.rk m c)),
    fun c => Heads.idx64 (KernelIdeal.Hand.rk m c),
    fun c => Heads.soft32 (Heads.vals32 (KernelIdeal.Hand.v m c)),
    fun c => Heads.idx32 (KernelIdeal.Hand.v m c),
    KernelIdeal.Hand.run m g, θ_run_mono (ReferenceIdeal.Hand.run m' g') fun r hr c => ?_⟩
  obtain ⟨h0, h1, h2, h3, h4⟩ := hagree c
  obtain ⟨e0, e1, e2, e3, e4⟩ := pools_eq m m' c h0 h1 h2 h3 h4
  have h := hr c
  rw [e0, e1, e2, e3, e4] at h
  exact h

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, ReferenceIdeal.Hand.quiescent,
  IdealRules.named_const.statement _ _ _ _ _ rfl, algebraic⟩

end Cert.Proof

end
